-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_values)) (v1 : (c : Dev Cert.KernelIdeal.nD) → Buf (Elt Ideal) ((c.tc : Thread Cert.KernelIdeal.nD Cert.KernelIdeal.τ).loc Cert.KernelIdeal.main_indices)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_values) = v0 c
          ∧ r.2.mem ((c.tc : Thread Cert.KernelIdeal.nD Cert.KernelIdeal.τ).loc Cert.KernelIdeal.main_indices) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x32768 : Shape := ⟨2, ![64, 32768]⟩
abbrev S64 : Shape := ⟨1, ![64]⟩
abbrev S64x1 : Shape := ⟨2, ![64, 1]⟩
abbrev S64x128 : Shape := ⟨2, ![64, 128]⟩

abbrev nBuf : Space → Nat
  | .hbm => 8
  | .vmem => 4
  | .smem => 0
  | _ => 0

abbrev bufTy : (tb : Table) → Fin (tcTables nBuf tb) → BufTy
  | .hbm, ⟨0, _⟩ => ⟨S64x32768, .f32⟩
  | .hbm, ⟨1, _⟩ => ⟨S64, .i32⟩
  | .hbm, ⟨2, _⟩ => ⟨S64, .i32⟩
  | .hbm, ⟨3, _⟩ => ⟨S64x1, .i32⟩
  | .hbm, ⟨4, _⟩ => ⟨S64x1, .i32⟩
  | .hbm, ⟨5, _⟩ => ⟨S64x32768, .f32⟩
  | .hbm, ⟨6, _⟩ => ⟨S64x128, .f32⟩
  | .hbm, ⟨7, _⟩ => ⟨S64x128, .i32⟩
  | .local _ .vmem, ⟨0, _⟩ => ⟨S64x32768, .f32⟩
  | .local _ .vmem, ⟨1, _⟩ => ⟨S64x1, .i32⟩
  | .local _ .vmem, ⟨2, _⟩ => ⟨S64x1, .i32⟩
  | .local _ .vmem, ⟨3, _⟩ => ⟨S64x32768, .f32⟩
  | _, _ => ⟨S64x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_values : Ref sig .tc := ⟨.hbm, 6, rfl⟩
abbrev main_indices : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S64x32768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x32768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S64x32768 : Shape := ⟨2, ![64, 32768]⟩
abbrev S64 : Shape := ⟨1, ![64]⟩
abbrev S32768 : Shape := ⟨1, ![32768]⟩
abbrev S1x32768 : Shape := ⟨2, ![1, 32768]⟩
abbrev S64x1 : Shape := ⟨2, ![64, 1]⟩
abbrev S_ : Shape := ⟨0, ![]⟩
abbrev S64x128 : Shape := ⟨2, ![64, 128]⟩

abbrev nBuf : Space → Nat
  | .hbm => 19
  | .vmem => 0
  | .smem => 0
  | _ => 0

abbrev bufTy : (tb : Table) → Fin (tcTables nBuf tb) → BufTy
  | .hbm, ⟨0, _⟩ => ⟨S64x32768, .f32⟩
  | .hbm, ⟨1, _⟩ => ⟨S64, .i32⟩
  | .hbm, ⟨2, _⟩ => ⟨S64, .i32⟩
  | .hbm, ⟨3, _⟩ => ⟨S32768, .i32⟩
  | .hbm, ⟨4, _⟩ => ⟨S1x32768, .i32⟩
  | .hbm, ⟨5, _⟩ => ⟨S64x1, .i32⟩
  | .hbm, ⟨6, _⟩ => ⟨S64x32768, .i32⟩
  | .hbm, ⟨7, _⟩ => ⟨S64x32768, .i32⟩
  | .hbm, ⟨8, _⟩ => ⟨S64x32768, .i1⟩
  | .hbm, ⟨9, _⟩ => ⟨S64x1, .i32⟩
  | .hbm, ⟨10, _⟩ => ⟨S64x32768, .i32⟩
  | .hbm, ⟨11, _⟩ => ⟨S64x32768, .i32⟩
  | .hbm, ⟨12, _⟩ => ⟨S64x32768, .i1⟩
  | .hbm, ⟨13, _⟩ => ⟨S64x32768, .i1⟩
  | .hbm, ⟨14, _⟩ => ⟨S_, .f32⟩
  | .hbm, ⟨15, _⟩ => ⟨S64x32768, .f32⟩
  | .hbm, ⟨16, _⟩ => ⟨S64x32768, .f32⟩
  | .hbm, ⟨17, _⟩ => ⟨S64x128, .f32⟩
  | .hbm, ⟨18, _⟩ => ⟨S64x128, .i32⟩
  | _, _ => ⟨S64x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_call0_v0 : Ref sig .tc := ⟨.hbm, 15, rfl⟩
abbrev main_v11 : Ref sig .tc := ⟨.hbm, 16, rfl⟩
abbrev main_values : Ref sig .tc := ⟨.hbm, 17, rfl⟩
abbrev main_indices : Ref sig .tc := ⟨.hbm, 18, rfl⟩

abbrev nD : Nat := 1
abbrev τ : Topo := Topo.v7x

variable {F : FTy → Type} [FloatOps F]
-- ==== Proof.RangeMask.lean ====
/- The masked scores, stated once for both programs: a score stays where its position lies in its row's half-open range,
   and becomes −∞ elsewhere. -/
module

public import Idealize.ShloMosaic.PureOps
public import Idealize.ShloMosaic.Lib.Pointwise

@[expose] public section

noncomputable section

namespace Cert.RangeMask

open Idealize.ShloMosaic

variable {F : FTy → Type} [FloatOps F]

/-- The shape of the scores: 64 rows of 32768 positions. -/
abbrev Rows : Shape := ⟨2, ![64, 32768]⟩
/-- The shape of the row bounds. -/
abbrev Bounds : Shape := ⟨1, ![64]⟩

/-- Position `p` lies in the range from `s` up to, not including, `e`, all read as signed words. -/
def inRange (p s e : BitVec 32) : Bool := s.sle p && p.slt e

/-- The masked scores: `scores` at the positions of row `r` in the range from `starts r` to `ends r`, −∞ elsewhere. -/
def rangeMask (scores : Vec F Rows .f32) (starts ends : IVec Bounds 32) : Vec F Rows .f32 := fun j =>
  if inRange (BitVec.ofNat 32 (j 1).val) (starts (ix1 (j 0))) (ends (ix1 (j 0))) then scores j
  else Scalar.ofBits .f32 0xFF800000#32

/-- Selecting by the conjunction of the two comparisons is selecting by `inRange`. -/
theorem select_inRange {α : Type} (p s e : BitVec 32) (a b : α) :
    Scalar.select (IntOp.andi (IntOp.cmpi .sge p s) (IntOp.cmpi .slt p e)) a b = if inRange p s e then a else b := by
  unfold inRange Scalar.select IntOp.andi IntOp.cmpi
  cases s.sle p <;> cases p.slt e <;> simp

end Cert.RangeMask

end
-- ==== Proof.KernelValue.lean ====
/- What the masking kernel and the host's selection after it leave in @main's two results: the top 128 values of
   each row of the masked scores and their positions, as pure terms of the arguments. -/
module

public import proofs.«01_k».proof.Proof.Gen.KernelIdeal.Frame
public import proofs.«01_k».proof.Proof.RangeMask
public import Idealize.ShloMosaic.Lib.Claim
public import Idealize.ShloMosaic.Lib.Pipeline.ValueKit
public import Idealize.ShloMosaic.Lib.Pointwise

@[expose] public section

noncomputable section

namespace Cert.KernelIdeal.Masked

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The masked scores on device `c`, from its arguments. -/
def masked (c : Dev nD) : Vec F S64x32768 .f32 :=
  RangeMask.rangeMask (m ((c.tc : Thread nD τ).loc main_arg0)) (m ((c.tc : Thread nD τ).loc main_arg1))
    (m ((c.tc : Thread nD τ).loc main_arg2))

/-- The block that the kernel body stores, the row bounds given as columns, is the masked scores. -/
theorem stored_eq (scores : Vec F S64x32768 .f32) (starts ends : IVec S64 32) :
    k0_pay1 (shapeCast S64x1 starts shapeCasts_S64_S64x1) (shapeCast S64x1 ends shapeCasts_S64_S64x1) scores
      = RangeMask.rangeMask scores starts ends := by
  funext j
  unfold k0_pay1 RangeMask.rangeMask
  rw [← RangeMask.select_inRange]
  pointwise

/-- The region finds the row starts as a column. -/
theorem V_v0 (c : Dev nD) : V m c main_v0 = shapeCast S64x1 (m ((c.tc : Thread nD τ).loc main_arg1)) shapeCasts_S64_S64x1 := by
  simp only [V, V0, hostOps0, List.flatten_cons, List.flatten_nil, List.append_nil]
  after_results
  rfl

/-- The region finds the row ends as a column. -/
theorem V_v1 (c : Dev nD) : V m c main_v1 = shapeCast S64x1 (m ((c.tc : Thread nD τ).loc main_arg2)) shapeCasts_S64_S64x1 := by
  simp only [V, V0, hostOps0, List.flatten_cons, List.flatten_nil, List.append_nil]
  after_results
  rfl

/-- Window 0's one block is its array's first. -/
theorem index0_0 (a : Fin 2) : win0_0.index t0_0 a = 0 := rfl
/-- Window 1's one block is its array's first. -/
theorem index0_1 (a : Fin 2) : win0_1.index t0_0 a = 0 := rfl
/-- Window 2's one block is its array's first. -/
theorem index0_2 (a : Fin 2) : win0_2.index t0_0 a = 0 := rfl

/-- The one block of the scores is the whole array. -/
theorem iblk_scores (c : Dev nD) : iblk m c 0 t0_0 = m ((c.tc : Thread nD τ).loc main_arg0) := by
  funext j
  refine Eq.trans ?_ (congrFun (V_main_arg0 m c) j)
  blk_ext [iblk, index0_0]

/-- The one block of the row starts is the whole column. -/
theorem iblk_starts (c : Dev nD) :
    iblk m c 1 t0_0 = shapeCast S64x1 (m ((c.tc : Thread nD τ).loc main_arg1)) shapeCasts_S64_S64x1 := by
  funext j
  refine Eq.trans ?_ (congrFun (V_v0 m c) j)
  blk_ext [iblk, index0_1]

/-- The one block of the row ends is the whole column. -/
theorem iblk_ends (c : Dev nD) :
    iblk m c 2 t0_0 = shapeCast S64x1 (m ((c.tc : Thread nD τ).loc main_arg2)) shapeCasts_S64_S64x1 := by
  funext j
  refine Eq.trans ?_ (congrFun (V_v1 m c) j)
  blk_ext [iblk, index0_2]

/-- The kernel leaves the masked scores in its output array. -/
theorem arrAt_out (c : Dev nD) : (dats m 0 c).arrAt 3 (cfgs 0).N = masked m c := by
  refine (dats m 0 c).arrAt_eq_of_after_last 3 t0_0 (by decide +kernel) _ fun j => ?_
  blk_simp
  rw [after0_3]
  frame_out
  rw [iblk_scores, iblk_starts, iblk_ends, stored_eq]
  rfl

/-- At the region's exit the kernel's output array holds the masked scores. -/
theorem exit_out (c : Dev nD) :
    Pipeline.withArrays (cfgs 0).spec c (V0 m c) (fun w => (dats m 0 c).arrAt w (cfgs 0).N) (Proc.devRef .tc main_v2)
      = masked m c :=
  (Pipeline.withArrays_arr spec0 launch0.win.arr_inj c (V0 m c) (fun w => (dats m 0 c).arrAt w (cfgs 0).N) 3).trans
    (arrAt_out m c)

/-- After the selection, the first result holds the top values of the masked rows. -/
theorem tail_values (c : Dev nD) :
    Pipeline.afterTail₀ cfgs (dats m) 0 (V0 m) [hostOps1] c main_values
      = (Host.topK S64x128 1 (FloatOps.cmpfTotal .gt) (masked m c) sliceFits_S64x32768_S64x128).1 := by
  rw [← exit_out]
  unfold Pipeline.afterTail₀
  simp only [hostOps1, List.flatten_cons, List.flatten_nil, List.append_nil]
  after_results

/-- After the selection, the second result holds their positions. -/
theorem tail_indices (c : Dev nD) :
    Pipeline.afterTail₀ cfgs (dats m) 0 (V0 m) [hostOps1] c main_indices
      = (Host.topK S64x128 1 (FloatOps.cmpfTotal .gt) (masked m c) sliceFits_S64x32768_S64x128).2 := by
  rw [← exit_out]
  unfold Pipeline.afterTail₀
  simp only [hostOps1, List.flatten_cons, List.flatten_nil, List.append_nil]
  after_results

/-- Every execution of the program ends with the top 128 values of each masked row and their positions in the two
    results, and the arguments unchanged. -/
theorem run : θ_run defs (onTc (τ := τ) (main (F := F))) ⟨m, fun _ => 0, ρ⟩ fun r => ∀ c : Dev nD,
    r.2.mem ((c.tc : Thread nD τ).loc main_values)
        = (Host.topK S64x128 1 (FloatOps.cmpfTotal .gt) (masked m c) sliceFits_S64x32768_S64x128).1
      ∧ r.2.mem ((c.tc : Thread nD τ).loc main_indices)
        = (Host.topK S64x128 1 (FloatOps.cmpfTotal .gt) (masked m c) sliceFits_S64x32768_S64x128).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h.1 c).2 main_values (Pipeline.mem_restRefs_of main_values (by decide) (by decide))).trans (tail_values m c),
        ((h.1 c).2 main_indices (Pipeline.mem_restRefs_of main_indices (by decide) (by decide))).trans (tail_indices m c),
        h.2 c⟩)
    (θ_run_and (run_main m ρ) (unchanged m ρ))

end Cert.KernelIdeal.Masked

end
-- ==== Proof.ReferenceValue.lean ====
/- What the reference computes: the top 128 values of each row of the masked scores and their positions, as pure terms
   of the arguments. -/
module

public import proofs.«01_k».proof.Proof.Gen.ReferenceIdeal.Run
public import proofs.«01_k».proof.Proof.RangeMask

@[expose] public section

noncomputable section

namespace Cert.ReferenceIdeal.Masked

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The masked scores on device `c`, from its arguments. -/
def masked (c : Dev nD) : Vec F S64x32768 .f32 :=
  RangeMask.rangeMask (m ((c.tc : Thread nD τ).loc main_arg0)) (m ((c.tc : Thread nD τ).loc main_arg1))
    (m ((c.tc : Thread nD τ).loc main_arg2))

/-- The reference's selection, over whole arrays, is the masked scores. -/
theorem where_eq (scores : Vec F S64x32768 .f32) (starts ends : IVec S64 32) :
    select (andi
        (cmpi .sge
          (broadcastInDim S64x32768 ![0, 1] bcast_S1x32768_S64x32768_0_1
            (broadcastInDim S1x32768 ![1] bcast_S32768_S1x32768_1 (iotaInDim S32768 32 0)))
          (broadcastInDim S64x32768 ![0, 1] bcast_S64x1_S64x32768_0_1 (broadcastInDim S64x1 ![0] bcast_S64_S64x1_0 starts)))
        (cmpi .slt
          (broadcastInDim S64x32768 ![0, 1] bcast_S1x32768_S64x32768_0_1
            (broadcastInDim S1x32768 ![1] bcast_S32768_S1x32768_1 (iotaInDim S32768 32 0)))
          (broadcastInDim S64x32768 ![0, 1] bcast_S64x1_S64x32768_0_1 (broadcastInDim S64x1 ![0] bcast_S64_S64x1_0 ends))))
      scores (broadcastInDim S64x32768 ![] bcast_S_S64x32768 (constant S_ .f32 0xFF800000#32))
      = RangeMask.rangeMask scores starts ends := by
  funext j
  unfold RangeMask.rangeMask
  rw [← RangeMask.select_inRange]
  pointwise

/-- Every execution of the reference ends with the top 128 values of each masked row and their positions in the two
    results, and the arguments unchanged. -/
theorem run : θ_run defs (onTc (τ := τ) (main (F := F))) ⟨m, fun _ => 0, ρ⟩ fun r => ∀ c : Dev nD,
    r.2.mem ((c.tc : Thread nD τ).loc main_values)
        = (Host.topK S64x128 1 (FloatOps.cmpfTotal .gt) (masked m c) sliceFits_S64x32768_S64x128).1
      ∧ r.2.mem ((c.tc : Thread nD τ).loc main_indices)
        = (Host.topK S64x128 1 (FloatOps.cmpfTotal .gt) (masked m c) sliceFits_S64x32768_S64x128).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c).1.trans (congrArg (fun x => (Host.topK S64x128 1 (FloatOps.cmpfTotal .gt) x sliceFits_S64x32768_S64x128).1)
          (where_eq _ _ _)),
        (h c).2.1.trans (congrArg (fun x => (Host.topK S64x128 1 (FloatOps.cmpfTotal .gt) x sliceFits_S64x32768_S64x128).2)
          (where_eq _ _ _)),
        (h c).2.2⟩)
    (Value.run m ρ)

end Cert.ReferenceIdeal.Masked

end
-- ==== Proof.Equation.lean ====
/- Kernel and reference over the extended reals end with the same results. -/
module

public import proofs.«01_k».proof.Defs
public import proofs.«01_k».proof.Proof.KernelValue
public import proofs.«01_k».proof.Proof.ReferenceValue

@[expose] public section

noncomputable section

namespace Cert.Equation

open Idealize.ShloMosaic Idealize.SL.Sem

/-- The reference terminates with its arguments unchanged and, declaring no semaphore, with no counter raised. -/
theorem frame_reference : Cert.quiescent_ReferenceIdeal := by
  intro m ρ _
  exact (θ_run Cert.ReferenceIdeal.defs _ _).mono
    (fun r h => ⟨fun c => (h c).2.2, Idealize.ShloMosaic.sem_eq_zero_of_no_sems (by decide) r.2⟩)
    (Cert.ReferenceIdeal.Masked.run (F := Ideal) m ρ)

/-- From arguments that agree, both programs end with the top 128 masked scores of each row and their positions. -/
theorem algebraic : Cert.algebraic_KernelIdeal_ReferenceIdeal := by
  intro m ρ m' ρ' _ hagree
  have e : ∀ c, Cert.ReferenceIdeal.Masked.masked (F := Ideal) m' c = Cert.KernelIdeal.Masked.masked (F := Ideal) m c := by
    intro c
    unfold Cert.ReferenceIdeal.Masked.masked Cert.KernelIdeal.Masked.masked
    rw [(hagree c).1, (hagree c).2.1, (hagree c).2.2]
  refine ⟨_, _, Cert.KernelIdeal.Masked.run (F := Ideal) m ρ, ?_⟩
  refine (θ_run Cert.ReferenceIdeal.defs _ _).mono (fun _ h c => ⟨(h c).1.trans ?_, (h c).2.1.trans ?_, (h c).2.2⟩)
    (Cert.ReferenceIdeal.Masked.run (F := Ideal) m' ρ')
  · rw [e c]
  · rw [e c]

end Cert.Equation

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The five claims: the three frames, the idealization, and the equality of kernel and reference. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Equation.frame_reference,
  trivial, Cert.Equation.algebraic⟩

end Cert.Proof

end
